-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S512x1024 : Shape := ⟨2, ![512, 1024]⟩
abbrev S512x64 : Shape := ⟨2, ![512, 64]⟩
abbrev S64x1024x1024 : Shape := ⟨3, ![64, 1024, 1024]⟩
abbrev S64x1024x512 : Shape := ⟨3, ![64, 1024, 512]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel

variable [Facts]

def fn {F : FTy → Type} [FloatOps F] (main_arg0 : FVec F S512x1024 .f32) (main_arg1 : FVec F S512x64 .f32) (main_arg2 : FVec F S64x1024x1024 .f32) (main_arg3 : FVec F S64x1024x512 .f32) : IVec S_ 1 :=
  let main_v0 : FVec F S512x64 .f32 := Host.absf main_arg1
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  main_v3
-- ==== Kernel.lean ====
abbrev S512x1024 : Shape := ⟨2, ![512, 1024]⟩
abbrev S512x64 : Shape := ⟨2, ![512, 64]⟩
abbrev S64x1024x1024 : Shape := ⟨3, ![64, 1024, 1024]⟩
abbrev S64x1024x512 : Shape := ⟨3, ![64, 1024, 512]⟩
abbrev S4x1024x1024 : Shape := ⟨3, ![4, 1024, 1024]⟩
abbrev S4x1024x512 : Shape := ⟨3, ![4, 1024, 512]⟩
abbrev S512 : Shape := ⟨1, ![512]⟩
abbrev S512x1 : Shape := ⟨2, ![512, 1]⟩
abbrev S64x1 : Shape := ⟨2, ![64, 1]⟩
abbrev S1x1024x1024 : Shape := ⟨3, ![1, 1024, 1024]⟩
abbrev S1024x1024 : Shape := ⟨2, ![1024, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x64, .f32⟩
  | .hbm, ⟨2, _⟩ => ⟨S64x1024x1024, .f32⟩
  | .hbm, ⟨3, _⟩ => ⟨S64x1024x512, .f32⟩
  | .hbm, ⟨4, _⟩ => ⟨S512x1024, .f32⟩
  | .local _ .vmem, ⟨0, _⟩ => ⟨S512x64, .f32⟩
  | .local _ .vmem, ⟨1, _⟩ => ⟨S512x1024, .f32⟩
  | .local _ .vmem, ⟨2, _⟩ => ⟨S4x1024x1024, .f32⟩
  | .local _ .vmem, ⟨3, _⟩ => ⟨S4x1024x1024, .f32⟩
  | .local _ .vmem, ⟨4, _⟩ => ⟨S4x1024x512, .f32⟩
  | .local _ .vmem, ⟨5, _⟩ => ⟨S4x1024x512, .f32⟩
  | .local _ .vmem, ⟨6, _⟩ => ⟨S512x1024, .f32⟩
  | .local _ .vmem, ⟨7, _⟩ => ⟨S512x64, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S512x1024 : Shape := ⟨2, ![512, 1024]⟩
abbrev S512x64 : Shape := ⟨2, ![512, 64]⟩
abbrev S64x1024x1024 : Shape := ⟨3, ![64, 1024, 1024]⟩
abbrev S64x1024x512 : Shape := ⟨3, ![64, 1024, 512]⟩
abbrev S_ : Shape := ⟨0, ![]⟩
abbrev S512 : Shape := ⟨1, ![512]⟩
abbrev S512x1 : Shape := ⟨2, ![512, 1]⟩
abbrev S512x2 : Shape := ⟨2, ![512, 2]⟩
abbrev S512x64x1024 : Shape := ⟨3, ![512, 64, 1024]⟩
abbrev S512x64x512 : Shape := ⟨3, ![512, 64, 512]⟩
abbrev S512x2x1 : Shape := ⟨3, ![512, 2, 1]⟩
abbrev S1x1x64 : Shape := ⟨3, ![1, 1, 64]⟩
abbrev S512x2x64 : Shape := ⟨3, ![512, 2, 64]⟩

abbrev nBuf : Space → Nat
  | .hbm => 52
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x64, .f32⟩
  | .hbm, ⟨2, _⟩ => ⟨S64x1024x1024, .f32⟩
  | .hbm, ⟨3, _⟩ => ⟨S64x1024x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512x1, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x64, .f32⟩
  | .hbm, ⟨17, _⟩ => ⟨S512x64, .f32⟩
  | .hbm, ⟨18, _⟩ => ⟨S512x2, .f32⟩
  | .hbm, ⟨19, _⟩ => ⟨S512x2, .i32⟩
  | .hbm, ⟨20, _⟩ => ⟨S_, .f32⟩
  | .hbm, ⟨21, _⟩ => ⟨S512, .f32⟩
  | .hbm, ⟨22, _⟩ => ⟨S512x1, .f32⟩
  | .hbm, ⟨23, _⟩ => ⟨S512x2, .f32⟩
  | .hbm, ⟨24, _⟩ => ⟨S512x2, .f32⟩
  | .hbm, ⟨25, _⟩ => ⟨S512x64x1024, .f32⟩
  | .hbm, ⟨26, _⟩ => ⟨S512x64x512, .f32⟩
  | .hbm, ⟨27, _⟩ => ⟨S512x64x512, .f32⟩
  | .hbm, ⟨28, _⟩ => ⟨S512x64x512, .f32⟩
  | .hbm, ⟨29, _⟩ => ⟨S512x64x512, .f32⟩
  | .hbm, ⟨30, _⟩ => ⟨S_, .f32⟩
  | .hbm, ⟨31, _⟩ => ⟨S512x64x512, .f32⟩
  | .hbm, ⟨32, _⟩ => ⟨S512x64x512, .f32⟩
  | .hbm, ⟨33, _⟩ => ⟨S_, .f32⟩
  | .hbm, ⟨34, _⟩ => ⟨S512x64x512, .f32⟩
  | .hbm, ⟨35, _⟩ => ⟨S512x64x512, .f32⟩
  | .hbm, ⟨36, _⟩ => ⟨S512x64x512, .f32⟩
  | .hbm, ⟨37, _⟩ => ⟨S512x64x512, .f32⟩
  | .hbm, ⟨38, _⟩ => ⟨S64x1024x512, .f32⟩
  | .hbm, ⟨39, _⟩ => ⟨S512x64x1024, .f32⟩
  | .hbm, ⟨40, _⟩ => ⟨S512x2x1, .i32⟩
  | .hbm, ⟨41, _⟩ => ⟨S1x1x64, .i32⟩
  | .hbm, ⟨42, _⟩ => ⟨S512x2x64, .i32⟩
  | .hbm, ⟨43, _⟩ => ⟨S512x2x64, .i32⟩
  | .hbm, ⟨44, _⟩ => ⟨S512x2x64, .i1⟩
  | .hbm, ⟨45, _⟩ => ⟨S512x2x64, .f32⟩
  | .hbm, ⟨46, _⟩ => ⟨S512x2x1, .f32⟩
  | .hbm, ⟨47, _⟩ => ⟨S512x2x64, .f32⟩
  | .hbm, ⟨48, _⟩ => ⟨S512x2x64, .f32⟩
  | .hbm, ⟨49, _⟩ => ⟨S_, .f32⟩
  | .hbm, ⟨50, _⟩ => ⟨S512x64, .f32⟩
  | .hbm, ⟨51, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== Proof.Moe.TopTwo.lean ====
/- The two best experts of a token and their shares, as plain mathematics over a row of 64 real router scores:
   which two are chosen, that a stable descending sort puts exactly them in front, and how the kernel's
   searches (a running maximum, the first position that attains it) find the same two. -/
module

public import Idealize.ShloMosaic.PureOps
public import Idealize.ShloMosaic.Lib.SortPrefix
public import Idealize.ShloMosaic.Lib.Pointwise
public import Mathlib.Analysis.SpecialFunctions.Exp

@[expose] public section

noncomputable section

namespace Cert.Moe

open Idealize.ShloMosaic

/-- Expert `a` is the first among the experts of the greatest score, and `b` the first among the experts of the
    greatest score when `a` is left out. -/
structure TopTwo (f : Fin 64 → ℝ) (a b : Fin 64) : Prop where
  le_fst : ∀ j, f j ≤ f a
  lt_fst : ∀ j, j < a → f j < f a
  ne : b ≠ a
  le_snd : ∀ j, j ≠ a → f j ≤ f b
  lt_snd : ∀ j, j ≠ a → j < b → f j < f b

/-- In a nonempty set of positions one is the first to hold the greatest score of the set. -/
theorem exists_first_greatest (f : Fin 64 → ℝ) (s : Finset (Fin 64)) (hs : s.Nonempty) :
    ∃ a ∈ s, (∀ j ∈ s, f j ≤ f a) ∧ ∀ j ∈ s, j < a → f j < f a := by
  obtain ⟨a, ha, hmin⟩ := s.exists_min_image (fun j => toLex (OrderDual.toDual (f j), j)) hs
  have key : ∀ j ∈ s, f j < f a ∨ f a = f j ∧ a ≤ j := by
    intro j hj
    have h := hmin j hj
    rw [Prod.Lex.le_iff] at h
    simpa [eq_comm] using h
  refine ⟨a, ha, fun j hj => ?_, fun j hj hlt => ?_⟩
  · rcases key j hj with h | h
    · exact h.le
    · exact h.1.ge
  · rcases key j hj with h | h
    · exact h
    · exact absurd h.2 (not_le.mpr hlt)

/-- Every row of scores has its two chosen experts. -/
theorem exists_topTwo (f : Fin 64 → ℝ) : ∃ a b, TopTwo f a b := by
  obtain ⟨a, -, ha, ha'⟩ := exists_first_greatest f Finset.univ ⟨0, Finset.mem_univ _⟩
  obtain ⟨b, hb, hb₁, hb₂⟩ := exists_first_greatest f (Finset.univ.erase a)
    ((exists_ne a).imp fun j hj => Finset.mem_erase.mpr ⟨hj, Finset.mem_univ _⟩)
  refine ⟨a, b, fun j => ha j (Finset.mem_univ _), fun j => ha' j (Finset.mem_univ _), Finset.ne_of_mem_erase hb, ?_, ?_⟩
  · exact fun j hj => hb₁ j (Finset.mem_erase.mpr ⟨hj, Finset.mem_univ _⟩)
  · exact fun j hj => hb₂ j (Finset.mem_erase.mpr ⟨hj, Finset.mem_univ _⟩)

/-- The share of expert `e` in a token's output: the two chosen experts' exponentials normalised to sum to one, written
    with the second's exponential relative to the first's; zero for every other expert. -/
def share (f : Fin 64 → ℝ) (a b e : Fin 64) : ℝ :=
  if e = a then 1 / (1 + Real.exp (f b - f a)) else if e = b then 1 - 1 / (1 + Real.exp (f b - f a)) else 0

/-- A share is never negative. -/
theorem share_nonneg (f : Fin 64 → ℝ) (a b e : Fin 64) : 0 ≤ share f a b e := by
  have h : 0 < Real.exp (f b - f a) := Real.exp_pos _
  have h1 : 1 / (1 + Real.exp (f b - f a)) ≤ 1 := by
    rw [div_le_one (by linarith)]; linarith
  unfold share
  split
  · positivity
  · split
    · linarith
    · exact le_rfl

/-! ## Searching for the greatest and for its first position -/

/-- A running maximum started at `⊥` ends at an entry that no entry exceeds. -/
theorem fold_max_eq (g : Fin 64 → EReal) (a : Fin 64) (h : ∀ j, g j ≤ g a) :
    Finset.fold max ⊥ g Finset.univ = g a :=
  le_antisymm (Finset.fold_max_le _ |>.mpr ⟨bot_le, fun j _ => h j⟩)
    (Finset.le_fold_max _ |>.mpr (Or.inr ⟨a, Finset.mem_univ _, le_rfl⟩))

/-- A running signed minimum of words ends at an entry that no entry, and not the start, is below. -/
theorem fold_minsi_eq (g : Fin 64 → BitVec 32) (c : BitVec 32) (i : Fin 64) (hc : (g i).toInt ≤ c.toInt)
    (h : ∀ j, (g i).toInt ≤ (g j).toInt) : Finset.fold IntOp.minsi c g Finset.univ = g i := by
  have key : ∀ s : Finset (Fin 64), (g i).toInt ≤ (Finset.fold IntOp.minsi c g s).toInt
      ∧ (i ∈ s → Finset.fold IntOp.minsi c g s = g i) := by
    intro s
    induction s using Finset.induction_on with
    | empty => simpa using hc
    | insert j s hj ih =>
      have hm : ∀ x y : BitVec 32, IntOp.minsi x y = if x.toInt < y.toInt then x else y := fun x y => by
        simp [IntOp.minsi, BitVec.slt_eq_decide]
      rw [Finset.fold_insert hj, hm]
      have hj' := h j
      by_cases hlt : (g j).toInt < (Finset.fold IntOp.minsi c g s).toInt
      · rw [if_pos hlt]
        refine ⟨hj', fun hi => ?_⟩
        rcases Finset.mem_insert.mp hi with rfl | hi
        · rfl
        · rw [ih.2 hi] at hlt; omega
      · rw [if_neg hlt]
        refine ⟨ih.1, fun hi => ?_⟩
        rcases Finset.mem_insert.mp hi with rfl | hi
        · exact BitVec.toInt_inj.mp (by have := ih.1; omega)
        · exact ih.2 hi
  exact (key Finset.univ).2 (Finset.mem_univ _)

/-- A small position as a signed word is the position. -/
theorem toInt_pos (j : Fin 64) : (BitVec.ofNat 32 j.val).toInt = j.val := by
  have := j.isLt
  have h : (BitVec.ofNat 32 j.val).toNat = j.val := by
    rw [BitVec.toNat_ofNat]; omega
  rw [BitVec.toInt_eq_toNat_of_lt (by omega), h]

/-- The positions as words are different for different positions. -/
theorem ofNat_eq_iff (i j : Fin 64) : BitVec.ofNat 32 i.val = BitVec.ofNat 32 j.val ↔ i = j := by
  refine ⟨fun h => ?_, fun h => h ▸ rfl⟩
  have := congrArg BitVec.toInt h
  rw [toInt_pos, toInt_pos] at this
  exact Fin.ext (by exact_mod_cast this)

/-- The least position among those that pass a test, computed as a running signed minimum over the positions that pass
    and a word above every position elsewhere, is the first position that passes. -/
theorem first_pos (P : Fin 64 → Prop) [DecidablePred P] (i : Fin 64) (hi : P i) (h : ∀ j, j < i → ¬ P j) :
    Finset.fold IntOp.minsi 2147483647#32 (fun x => if P x then BitVec.ofNat 32 x.val else 1000000000#32) Finset.univ
      = BitVec.ofNat 32 i.val := by
  have h0 := i.isLt
  have e := fold_minsi_eq (fun x => if P x then BitVec.ofNat 32 x.val else 1000000000#32) 2147483647#32 i
    (by
      simp only [if_pos hi, toInt_pos]
      have : (2147483647#32).toInt = 2147483647 := by decide
      omega)
    (by
      intro j
      simp only [if_pos hi, toInt_pos]
      by_cases hj : P j
      · rw [if_pos hj, toInt_pos]
        have : ¬ j < i := fun hlt => h j hlt hj
        have := not_lt.mp this
        exact_mod_cast this
      · rw [if_neg hj]
        have : (1000000000#32).toInt = 1000000000 := by decide
        omega)
  simpa only [if_pos hi] using e

/-- Choosing by the comparison of two positions' words is choosing by the positions. -/
theorem select_pos {α : Type} (i j : Fin 64) (u v : α) :
    Scalar.select (IntOp.cmpi .eq (BitVec.ofNat 32 i.val) (BitVec.ofNat 32 j.val)) u v = if i = j then u else v := by
  by_cases h : i = j
  · subst h; simp [Scalar.select, IntOp.cmpi]
  · have : ¬ BitVec.ofNat 32 i.val = BitVec.ofNat 32 j.val := fun e => h ((ofNat_eq_iff i j).mp e)
    have hb : (BitVec.ofNat 32 i.val == BitVec.ofNat 32 j.val) = false := beq_eq_false_iff_ne.mpr this
    simp [Scalar.select, IntOp.cmpi, hb, h]

/-! ## The stable descending sort -/

/-- A stable sort of positions listed in order, by a comparison `R`, is the sort by `R` and then by the position. -/
theorem stableSort_tieBreak (R T : Fin 64 → Fin 64 → Bool) (h : ∀ a b, a < b → R b a = T b a) (l : List (Fin 64))
    (hl : l.Pairwise (· < ·)) : stableSort R l = stableSort T l := by
  induction l with
  | nil => rfl
  | cons a l ih =>
    rw [List.pairwise_cons] at hl
    unfold stableSort
    rw [ih hl.2]
    exact insertBefore_congr R T a _ fun b hb => h a b (hl.1 b ((perm_stableSort T l).mem_iff.mp hb))

/-- The stable sort, greatest first, of keys that are ordered as the scores are puts the two chosen experts in front. -/
theorem sortedFrom_topTwo {f : Fin 64 → ℝ} {a b : Fin 64} (h : TopTwo f a b) (p : Fin 64 → EReal)
    (hp : ∀ i j, p i < p j ↔ f i < f j) (R : Fin 64 → Fin 64 → Bool) (hR : ∀ i j, R i j = decide (p j < p i)) (k : Fin 2) :
    sortedFrom R (k.castLE (by decide)) = ![a, b] k := by
  classical
  have hle : ∀ i j, p i ≤ p j ↔ f i ≤ f j := fun i j => by rw [← not_lt, ← not_lt, hp]
  have hB := StrictTotalBefore.of_key_then_position (n := 64) (fun x y : EReal => decide (y < x)) p (by simp)
    (fun x y z hxy hyz => by simp only [decide_eq_true_eq] at *; exact hyz.trans hxy)
    (fun x y => by simp only [decide_eq_true_eq]; rcases lt_trichotomy y x with h | h | h <;> simp [h])
  have hs : ∀ k, sortedFrom R k = sortedFrom (fun k k' : Fin 64 => decide (p k' < p k) || (decide (p k = p k') && decide (k < k'))) k := by
    intro k
    have e : sortPositions 64 R = sortPositions 64
        (fun k k' : Fin 64 => decide (p k' < p k) || (decide (p k = p k') && decide (k < k'))) :=
      stableSort_tieBreak R _ (fun i j hij => by rw [hR]; simp [not_lt.mpr hij.le]) _ (List.pairwise_lt_finRange 64)
    unfold sortedFrom
    simp only [List.get_eq_getElem, Fin.val_cast, e]
  rw [hs]
  have notBefore : ∀ i j : Fin 64, f i ≤ f j → (j < i ∨ f i < f j) →
      (decide (p j < p i) || (decide (p i = p j) && decide (i < j))) = false := by
    intro i j hij hor
    have h1 : ¬ p j < p i := by rw [hp]; exact not_lt.mpr hij
    have h2 : ¬ (p i = p j ∧ i < j) := by
      rintro ⟨e, hlt⟩
      rcases hor with h | h
      · exact absurd h (not_lt.mpr hlt.le)
      · exact absurd e ((hp i j).mpr h).ne
    simp only [h1, decide_false, Bool.false_or]
    by_contra hne
    simp only [Bool.not_eq_false, Bool.and_eq_true, decide_eq_true_eq] at hne
    exact h2 hne
  have fst_ok : ∀ j, j ≠ a → a < j ∨ f j < f a := fun j hj => by
    rcases lt_or_gt_of_ne hj with hlt | hgt
    · exact Or.inr (h.lt_fst j hlt)
    · exact Or.inl hgt
  refine hB.sortedFrom_eq_of_prefix (by decide) ![a, b] ?_ ?_ ?_ k
  · intro i j hij
    fin_cases i <;> fin_cases j <;> first | rfl | (exact absurd hij (by simpa using h.ne)) | (exact absurd hij (by simpa using h.ne.symm))
  · intro i j hij
    fin_cases i <;> fin_cases j <;> first | (exact absurd hij (by decide)) | exact notBefore b a (h.le_fst b) (fst_ok b h.ne)
  · intro i q hq
    have hqa : q ≠ a := fun e => hq 0 e.symm
    have hqb : q ≠ b := fun e => hq 1 e.symm
    fin_cases i
    · exact notBefore q a (h.le_fst q) (fst_ok q hqa)
    · refine notBefore q b (h.le_snd q hqa) ?_
      rcases lt_or_gt_of_ne hqb with hlt | hgt
      · exact Or.inr (h.lt_snd q hqa hlt)
      · exact Or.inl hgt

end Cert.Moe
-- ==== Proof.Moe.Reals.lean ====
/- Small facts about the extended reals that both programs' values are brought through: a quotient of reals, the word
   the running maxima start from, and a finite sum with a common nonnegative real factor. -/
module

public import Idealize.ShloMosaic.Lib.Pointwise

@[expose] public section

noncomputable section

namespace Cert.Moe

open Idealize.ShloMosaic

/-- A quotient of two reals, the divisor not zero, is the real quotient. -/
theorem div_real (x y : ℝ) (hy : y ≠ 0) : Ideal.div (x : EReal) (y : EReal) = ((x / y : ℝ) : EReal) := by
  rw [Ideal.div_coe hy, ← EReal.coe_mul, mul_one_div]

/-- The word the running maxima start from is the least extended real. -/
theorem ofBits_lowest : Ideal.ofBits .f32 0xFF800000#32 = ⊥ := by
  simp [Ideal.ofBits, Ideal.ieee]

/-- A nonnegative real factor is taken out of a finite sum of extended reals, whatever the summands. -/
theorem mul_sum_real {ι : Type} (s : Finset ι) (g : ι → EReal) (c : ℝ) (hc : 0 ≤ c) :
    (c : EReal) * ∑ i ∈ s, g i = ∑ i ∈ s, (c : EReal) * g i := by
  classical
  induction s using Finset.induction_on with
  | empty => simp
  | insert i s hi ih =>
    rw [Finset.sum_insert hi, Finset.sum_insert hi, EReal.left_distrib_of_nonneg_of_ne_top (by exact_mod_cast hc) (EReal.coe_ne_top c), ih]

end Cert.Moe
-- ==== Proof.Moe.KernelRouting.lean ====
/- What the kernel keeps in its scratch: each token's share of every expert, computed at the first grid point from that
   token's row of router scores. -/
module

public import proofs.«01_k».proof.Proof.Gen.KernelIdeal.Skeleton
public import proofs.«01_k».proof.Proof.Moe.TopTwo
public import proofs.«01_k».proof.Proof.Moe.Reals

@[expose] public section

noncomputable section

namespace Cert.Moe

open Idealize.ShloMosaic Cert.KernelIdeal Cert.KernelIdeal.Gen

/-- The kernel's first search, over a row of real scores: the running maximum is the first chosen expert's score, and
    the first position attaining it is that expert. -/
theorem kernel_first {f : Fin 64 → ℝ} {a b : Fin 64} (h : TopTwo f a b) :
    Finset.fold max ⊥ (fun x => ((f x : ℝ) : EReal)) Finset.univ = (f a : EReal) ∧
    Finset.fold IntOp.minsi 2147483647#32 (fun x => if ((f x : ℝ) : EReal) = (f a : EReal) then BitVec.ofNat 32 x.val else 1000000000#32)
      Finset.univ = BitVec.ofNat 32 a.val :=
  ⟨fold_max_eq (fun x => ((f x : ℝ) : EReal)) a fun j => by exact_mod_cast h.le_fst j,
    first_pos (fun x => ((f x : ℝ) : EReal) = (f a : EReal)) a rfl fun j hj e =>
      (h.lt_fst j hj).ne (by exact_mod_cast e)⟩

/-- The kernel's second search, the first chosen expert's score replaced by `⊥`: it finds the second chosen expert. -/
theorem kernel_second {f : Fin 64 → ℝ} {a b : Fin 64} (h : TopTwo f a b) :
    Finset.fold max ⊥ (fun x => if x = a then ⊥ else ((f x : ℝ) : EReal)) Finset.univ = (f b : EReal) ∧
    Finset.fold IntOp.minsi 2147483647#32
      (fun x => if (if x = a then ⊥ else ((f x : ℝ) : EReal)) = (f b : EReal) then BitVec.ofNat 32 x.val else 1000000000#32)
      Finset.univ = BitVec.ofNat 32 b.val := by
  refine ⟨?_, first_pos (fun x => (if x = a then ⊥ else ((f x : ℝ) : EReal)) = (f b : EReal)) b (if_neg h.ne) fun j hj e => ?_⟩
  · have e := fold_max_eq (fun x => if x = a then ⊥ else ((f x : ℝ) : EReal)) b (fun j => by
      simp only [if_neg h.ne]
      split
      · exact bot_le
      · rename_i hj
        exact_mod_cast h.le_snd j hj)
    rwa [if_neg h.ne] at e
  · by_cases hja : j = a
    · rw [if_pos hja] at e
      exact EReal.bot_ne_coe _ e
    · rw [if_neg hja] at e
      exact (h.lt_snd j hja hj).ne (by exact_mod_cast e)

/-- The scratch's entry for token `t` and expert `e` is that expert's share, if the token's scores are the reals `f`. -/
theorem kernel_routing (l : Vec Ideal S512x64 .f32) (t : Fin 512) (f : Fin 64 → ℝ) (hl : ∀ j, l (ix2 t j) = (f j : EReal))
    {a b : Fin 64} (h : TopTwo f a b) (e : Fin 64) : k0_pay1 l (ix2 t e) = (share f a b e : EReal) := by
  have hpos : 1 + Real.exp (f b - f a) ≠ 0 := (add_pos one_pos (Real.exp_pos _)).ne'
  have hw : Ideal.div 1 (1 + Ideal.exp ((f b : EReal) - (f a : EReal))) = ((1 / (1 + Real.exp (f b - f a)) : ℝ) : EReal) := by
    rw [← EReal.coe_sub, Ideal.exp_coe, ← EReal.coe_one, ← EReal.coe_add, div_real _ _ hpos]
  unfold k0_pay1
  pointwise
  simp only [hl, ofBits_lowest, (kernel_first h).1, (kernel_first h).2, select_pos, (kernel_second h).1, (kernel_second h).2, hw]
  unfold share
  by_cases ha : e = a
  · have hb : e ≠ b := fun hb => h.ne (hb.symm.trans ha)
    rw [if_pos ha, if_neg hb, if_pos ha, add_zero]
  · rw [if_neg ha, if_neg ha, zero_add]
    split
    · rw [← EReal.coe_one, ← EReal.coe_sub]
    · rfl

end Cert.Moe
-- ==== Proof.Moe.Mixture.lean ====
/- The layer as mathematics, over extended-real arrays: what one expert gives a token, before the token's share of that
   expert is multiplied in. -/
module

public import Idealize.ShloMosaic.Lib.Pointwise

@[expose] public section

noncomputable section

namespace Cert.Moe

open Idealize.ShloMosaic

/-- The tokens, [512, 1024]. -/
abbrev Tokens : Type := (⟨2, ![512, 1024]⟩ : Shape).Idx → EReal
/-- Every expert's gate rows (0 to 511) and up rows (512 to 1023), [64, 1024, 1024]. -/
abbrev GateUp : Type := (⟨3, ![64, 1024, 1024]⟩ : Shape).Idx → EReal
/-- Every expert's down projection, [64, 1024, 512]. -/
abbrev Down : Type := (⟨3, ![64, 1024, 512]⟩ : Shape).Idx → EReal

/-- Row `i` of expert `e`'s gate-and-up matrix against token `t`. -/
def proj (x : Tokens) (w : GateUp) (t : Fin 512) (e : Fin 64) (i : Fin 1024) : EReal :=
  ∑ k : Fin 1024, x (ix2 t k) * w (ix3 e i k)

/-- Hidden unit `i` of expert `e` at token `t`: the gate, times its logistic, times the up projection. -/
def hidden (x : Tokens) (w : GateUp) (t : Fin 512) (e : Fin 64) (i : Fin 512) : EReal :=
  proj x w t e ⟨i.val, by omega⟩ * Ideal.logistic (proj x w t e ⟨i.val, by omega⟩) * proj x w t e ⟨512 + i.val, by omega⟩

/-- Output feature `h` of expert `e` at token `t`. -/
def expertOut (x : Tokens) (w : GateUp) (v : Down) (t : Fin 512) (e : Fin 64) (h : Fin 1024) : EReal :=
  ∑ i : Fin 512, v (ix3 e h i) * hidden x w t e i

end Cert.Moe
-- ==== Proof.Moe.Expert.lean ====
/- One expert in the kernel's body: the vectors the body forms for it, and their value at an index, which is the token's
   share of the expert times what the expert gives the token. -/
module

public import proofs.«01_k».proof.Proof.Gen.KernelIdeal.Skeleton
public import proofs.«01_k».proof.Proof.Moe.Mixture
public import proofs.«01_k».proof.Proof.Moe.TopTwo
public import proofs.«01_k».proof.Proof.Moe.Reals

@[expose] public section

noncomputable section

namespace Cert.Moe

open Idealize.ShloMosaic Cert.KernelIdeal Cert.KernelIdeal.Gen

/-- What the body adds for the expert numbered `e`, its two weight blocks `w13` and `w2` as loaded: the column of shares
    picked out of the scratch by a product with a one-hot column, the projections, the gated hidden units times the
    share, and the down projection. -/
def expertTerm (x : Vec Ideal S512x1024 .f32) (cmb : Vec Ideal S512x64 .f32) (e : BitVec 32)
    (w13 : Vec Ideal S1x1024x1024 .f32) (w2 : Vec Ideal S1x1024x512 .f32) : FVec Ideal S512x1024 .f32 :=
  have col : FVec Ideal S512x1 .f32 := matmul (φ₁ := .f32) dot_S512x64_S64x1_S512x1_1_0_0_1_n_n (some .fp32) cmb
    (sitofp .f32 (extui 32 (cmpi .eq (iota .tc S64x1 32 [0] iota_S64x1_d0_w32) (broadcast S64x1 e)) natLt_1_32))
    (constant S512x1 .f32 0x00000000#32)
  have gu : FVec Ideal S512x1024 .f32 := matmul dot_S512x1024_S1024x1024_S512x1024_1_1_0_0_n_n none
    (truncf .bf16 x bitsLt_bf16_f32) (truncf .bf16 (shapeCast S1024x1024 w13 shapeCasts_S1x1024x1024_S1024x1024) bitsLt_bf16_f32)
    (constant S512x1024 .f32 0x00000000#32)
  have gate : FVec Ideal S512x512 .f32 := extractStridedSlice S512x512 ![0, 0] gu slices_S512x1024_o0_0_S512x512
  have up : FVec Ideal S512x512 .f32 := extractStridedSlice S512x512 ![0, 512] gu slices_S512x1024_o0_512_S512x512
  have act : FVec Ideal S512x512 .f32 :=
    mulf (mulf (mulf (broadcastTo S512x512 col broadcasts_S512x1_S512x512) gate) (logistic gate)) up
  matmul dot_S512x512_S1024x512_S512x1024_1_1_0_0_n_n none (truncf .bf16 act bitsLt_bf16_f32)
    (truncf .bf16 (shapeCast S1024x512 w2 shapeCasts_S1x1024x512_S1024x512) bitsLt_bf16_f32)
    (constant S512x1024 .f32 0x00000000#32)

/-- A row of reals against the one-hot column of position `e` is the row's entry at `e`. -/
theorem sum_oneHot (s : Fin 64 → ℝ) (e : Fin 64) :
    ∑ x : Fin 64, (s x : EReal) * FloatOps.sitofp (F := Ideal) .f32
      (BitVec.setWidth 32 (IntOp.cmpi .eq (BitVec.ofNat 32 x.val) (BitVec.ofNat 32 e.val))) = (s e : EReal) := by
  have hbit : ∀ x : Fin 64, FloatOps.sitofp (F := Ideal) .f32
      (BitVec.setWidth 32 (IntOp.cmpi .eq (BitVec.ofNat 32 x.val) (BitVec.ofNat 32 e.val))) = if x = e then (1 : EReal) else 0 := by
    intro x
    show (((BitVec.setWidth 32 (IntOp.cmpi .eq (BitVec.ofNat 32 x.val) (BitVec.ofNat 32 e.val))).toInt : ℝ) : EReal) = _
    by_cases h : x = e
    · subst h; simp [IntOp.cmpi]
    · have hb : (BitVec.ofNat 32 x.val == BitVec.ofNat 32 e.val) = false :=
        beq_eq_false_iff_ne.mpr fun q => h ((ofNat_eq_iff x e).mp q)
      simp [IntOp.cmpi, hb, h]
  simp only [hbit, mul_ite, mul_one, mul_zero]
  simp

/-- The body's addend for expert `e`, read at token `t` and output feature `h`: the token's share of the expert times
    the expert's output, where the scratch holds the nonnegative shares `s` and the blocks are expert `e`'s weights. -/
theorem expertTerm_apply (x : Vec Ideal S512x1024 .f32) (cmb : Vec Ideal S512x64 .f32) (w13 : Vec Ideal S1x1024x1024 .f32)
    (w2 : Vec Ideal S1x1024x512 .f32) (W13 : Vec Ideal S64x1024x1024 .f32) (W2 : Vec Ideal S64x1024x512 .f32)
    (e : Fin 64) (h13 : ∀ i k, w13 (ix3 0 i k) = W13 (ix3 e i k)) (h2 : ∀ o i, w2 (ix3 0 o i) = W2 (ix3 e o i))
    (t : Fin 512) (s : Fin 64 → ℝ) (hs : ∀ q, cmb (ix2 t q) = (s q : EReal)) (hpos : 0 ≤ s e) (h : Fin 1024) :
    expertTerm x cmb (BitVec.ofNat 32 e.val) w13 w2 (ix2 t h) = (s e : EReal) * expertOut x W13 W2 t e h := by
  unfold expertTerm
  pointwise
  simp only [hs, h13, h2, sum_oneHot]
  unfold expertOut
  rw [mul_sum_real _ _ _ hpos]
  refine Finset.sum_congr rfl fun i _ => ?_
  unfold hidden proj
  ac_rfl

end Cert.Moe
-- ==== Proof.Moe.Step.lean ====
/- One grid point of the kernel as mathematics: the named terms that say what the output block and the scratch hold after
   a point, opened to the body's vectors and read at an index. -/
module

public import proofs.«01_k».proof.Proof.Gen.KernelIdeal.Value
public import proofs.«01_k».proof.Proof.Moe.Expert
public import proofs.«01_k».proof.Proof.Moe.KernelRouting
public import Idealize.ShloMosaic.Lib.Pipeline.ValueKit
public import Idealize.ShloMosaic.Lib.Pipeline.ReadBack

@[expose] public section

set_option maxRecDepth 16384

noncomputable section

namespace Cert.Moe

open Idealize.ShloMosaic Idealize.ShloMosaic.TcCoe Cert.KernelIdeal Cert.KernelIdeal.Gen

variable (m : (ℓ : Loc nD τ sig) → Buf (Elt Ideal) ℓ)

/-- The number of slot `j`'s expert at grid coordinate `g`, as the body computes it. -/
def expertWord (g : BitVec 32) (j : Fin 4) : BitVec 32 := Scalar.addi (Scalar.muli g 4#32) (BitVec.ofNat 32 j.val)

/-- What a grid point stores into the output block: what the block held, plus the addends of the point's four experts
    added up from zero; `w13 j` and `w2 j` are the weights loaded for slot `j`. -/
def pointSum (g : BitVec 32) (x : Vec Ideal S512x1024 .f32) (cmb : Vec Ideal S512x64 .f32) (w13 : Fin 4 → Vec Ideal S1x1024x1024 .f32)
    (w2 : Fin 4 → Vec Ideal S1x1024x512 .f32) (prev : Vec Ideal S512x1024 .f32) : FVec Ideal S512x1024 .f32 :=
  addf prev (addf (addf (addf (addf (broadcast S512x1024 (Scalar.ofBits (F := Ideal) .f32 0x00000000#32))
    (expertTerm x cmb (expertWord g 0) (w13 0) (w2 0))) (expertTerm x cmb (expertWord g 1) (w13 1) (w2 1)))
    (expertTerm x cmb (expertWord g 2) (w13 2) (w2 2))) (expertTerm x cmb (expertWord g 3) (w13 3) (w2 3)))

/-- The body's printed vectors, put together, are `pointSum`. -/
theorem body_eq (i : grid0.Coords) (x : Vec Ideal S512x1024 .f32) (cmb : Vec Ideal S512x64 .f32) (a0 a1 a2 a3 : Vec Ideal S1x1024x1024 .f32)
    (b0 b1 b2 b3 : Vec Ideal S1x1024x512 .f32) (prev : Vec Ideal S512x1024 .f32) :
    k0_pay9 (F := Ideal) (BitVec.ofNat 32 (i 0).val) (k0_pay4 x) (k0_pay7 (k0_pay4 x) (k0_pay5 i x cmb a0 b0) (k0_pay6 i) cmb a1 b1)
      (k0_pay8 (BitVec.ofNat 32 (i 0).val) (k0_pay4 x) cmb a2) b2 cmb a3 b3 prev
      = pointSum (BitVec.ofNat 32 (i 0).val) x cmb ![a0, a1, a2, a3] ![b0, b1, b2, b3] prev := by
  have hp : shapeCast S512x1024 prev shapeCasts_S512x1024_S512x1024 = prev := shapeCast_self _ _
  unfold pointSum
  conv_rhs => rw [← hp]
  rfl

/-- The gate-and-up matrices a point loads for its four experts, cut out of its block of four. -/
abbrev loads13 (B : Vec Ideal S4x1024x1024 .f32) : Fin 4 → Vec Ideal S1x1024x1024 .f32 :=
  ![View.ld B (Rect.unit ![0, 0, 0] ![1, 1024, 1024] inb_S4x1024x1024_S1x1024x1024_0_0_0),
    View.ld B (Rect.unit ![1, 0, 0] ![1, 1024, 1024] inb_S4x1024x1024_S1x1024x1024_1_0_0),
    View.ld B (Rect.unit ![2, 0, 0] ![1, 1024, 1024] inb_S4x1024x1024_S1x1024x1024_2_0_0),
    View.ld B (Rect.unit ![3, 0, 0] ![1, 1024, 1024] inb_S4x1024x1024_S1x1024x1024_3_0_0)]

/-- The down projections a point loads for its four experts, cut out of its block of four. -/
abbrev loads2 (B : Vec Ideal S4x1024x512 .f32) : Fin 4 → Vec Ideal S1x1024x512 .f32 :=
  ![View.ld B (Rect.unit ![0, 0, 0] ![1, 1024, 512] inb_S4x1024x512_S1x1024x512_0_0_0),
    View.ld B (Rect.unit ![1, 0, 0] ![1, 1024, 512] inb_S4x1024x512_S1x1024x512_1_0_0),
    View.ld B (Rect.unit ![2, 0, 0] ![1, 1024, 512] inb_S4x1024x512_S1x1024x512_2_0_0),
    View.ld B (Rect.unit ![3, 0, 0] ![1, 1024, 512] inb_S4x1024x512_S1x1024x512_3_0_0)]

/-- Slot `j`'s load reads the block at `j`. -/
theorem loads13_apply (B : Vec Ideal S4x1024x1024 .f32) (j : Fin 4) (i k : Fin 1024) : loads13 B j (ix3 0 i k) = B (ix3 j i k) := by
  fin_cases j <;> (dsimp [loads13]; pointwise) <;> blk_ext []

/-- Slot `j`'s load reads the block at `j`. -/
theorem loads2_apply (B : Vec Ideal S4x1024x512 .f32) (j : Fin 4) (o : Fin 1024) (i : Fin 512) : loads2 B j (ix3 0 o i) = B (ix3 j o i) := by
  fin_cases j <;> (dsimp [loads2]; pointwise) <;> blk_ext []

/-- After the first point: the output block holds the point's sum over zeros, the scratch the tokens' shares. -/
theorem after_first (c : Dev nD) (t : Fin cfg0.N) (h0 : t.val % 16 = 0) :
    outsAt0 m c t.val t.isLt = (pointSum (BitVec.ofNat 32 (grid0.coords t 0).val) (iblk m c 1 t) (k0_pay1 (F := Ideal) (iblk m c 0 t))
      (loads13 (iblk m c 2 t)) (loads2 (iblk m c 3 t)) (k0_pay3 (F := Ideal)), k0_pay1 (F := Ideal) (iblk m c 0 t)) := by
  have hs : k0_pay2 (k0_pay1 (F := Ideal) (iblk m c 0 t)) = k0_pay1 (F := Ideal) (iblk m c 0 t) := by
    unfold k0_pay2; exact shapeCast_self _ _
  rw [outsAt0_A m c t h0]
  ext1
  · dsimp only
    frame_out
    rw [hs]
    exact body_eq ..
  · dsimp only
    frame_out
    exact hs

/-- After a later point: the output block holds the point's sum over what it held, the scratch what it held. -/
theorem after_later (c : Dev nD) (t : Fin cfg0.N) (h0 : ¬ t.val % 16 = 0) :
    outsAt0 m c t.val t.isLt = (pointSum (BitVec.ofNat 32 (grid0.coords t 0).val) (iblk m c 1 t)
      (outsAt0 m c (t.val - 1) (Nat.lt_of_le_of_lt (Nat.sub_le _ _) t.isLt)).2 (loads13 (iblk m c 2 t)) (loads2 (iblk m c 3 t))
      (outsAt0 m c (t.val - 1) (Nat.lt_of_le_of_lt (Nat.sub_le _ _) t.isLt)).1,
      (outsAt0 m c (t.val - 1) (Nat.lt_of_le_of_lt (Nat.sub_le _ _) t.isLt)).2) := by
  rw [outsAt0_B m c t h0]
  ext1
  · dsimp only
    frame_out
    simp only [read_unread_whole]
    exact body_eq ..
  · rfl

/-! ## A point's sum at an index -/

/-- The expert of slot `j` at grid point `n`. -/
def expertAt (n : Fin 16) (j : Fin 4) : Fin 64 := ⟨4 * n.val + j.val, by omega⟩

/-- The body's expert number is that expert. -/
theorem expertWord_eq (n : Fin 16) (j : Fin 4) : expertWord (BitVec.ofNat 32 n.val) j = BitVec.ofNat 32 (expertAt n j).val := by
  show BitVec.ofNat 32 n.val * 4#32 + BitVec.ofNat 32 j.val = BitVec.ofNat 32 (4 * n.val + j.val)
  rw [mul_comm, BitVec.ofNat_add, BitVec.ofNat_mul]

/-- What grid point `n` stores at token `t` and feature `h`: what was there, plus the four experts' outputs, each times
    the token's share of the expert. -/
theorem pointSum_apply (n : Fin 16) (x : Vec Ideal S512x1024 .f32) (cmb : Vec Ideal S512x64 .f32)
    (w13 : Fin 4 → Vec Ideal S1x1024x1024 .f32) (w2 : Fin 4 → Vec Ideal S1x1024x512 .f32) (prev : Vec Ideal S512x1024 .f32)
    (W13 : Vec Ideal S64x1024x1024 .f32) (W2 : Vec Ideal S64x1024x512 .f32)
    (h13 : ∀ j i k, w13 j (ix3 0 i k) = W13 (ix3 (expertAt n j) i k)) (h2 : ∀ j o i, w2 j (ix3 0 o i) = W2 (ix3 (expertAt n j) o i))
    (t : Fin 512) (s : Fin 64 → ℝ) (hs : ∀ q, cmb (ix2 t q) = (s q : EReal)) (hpos : ∀ q, 0 ≤ s q) (h : Fin 1024) :
    pointSum (BitVec.ofNat 32 n.val) x cmb w13 w2 prev (ix2 t h)
      = prev (ix2 t h) + ∑ j : Fin 4, (s (expertAt n j) : EReal) * expertOut x W13 W2 t (expertAt n j) h := by
  have hT : ∀ j, expertTerm x cmb (expertWord (BitVec.ofNat 32 n.val) j) (w13 j) (w2 j) (ix2 t h)
      = (s (expertAt n j) : EReal) * expertOut x W13 W2 t (expertAt n j) h := fun j => by
    rw [expertWord_eq]
    exact expertTerm_apply x cmb (w13 j) (w2 j) W13 W2 (expertAt n j) (h13 j) (h2 j) t s hs (hpos _) h
  unfold pointSum
  pointwise
  rw [hT, hT, hT, hT, Fin.sum_univ_four]

end Cert.Moe
-- ==== Proof.Moe.Sweep.lean ====
/- The kernel's result: the output block after the last grid point, as the sum over all 64 experts. -/
module

public import proofs.«01_k».proof.Proof.Moe.Step

@[expose] public section

set_option maxRecDepth 16384

noncomputable section

namespace Cert.Moe

open Idealize.ShloMosaic Idealize.ShloMosaic.TcCoe Cert.KernelIdeal Cert.KernelIdeal.Gen

variable (m : (ℓ : Loc nD τ sig) → Buf (Elt Ideal) ℓ)

/-- Where each window's block stands at a grid point, and the point's coordinate: the logits and the tokens are staged
    whole, the weights four experts at a time. -/
theorem idx : ∀ t : Fin cfg0.N, win0_0.index t = ![0, 0] ∧ win0_1.index t = ![0, 0] ∧ win0_2.index t = ![t.val, 0, 0]
    ∧ win0_3.index t = ![t.val, 0, 0] ∧ (grid0.coords t 0).val = t.val :=
  (by decide +kernel : ∀ t : Fin grid0.N, _)

/-- The logits' block is the logits' array. -/
theorem block_logits (c : Dev nD) (t : Fin cfg0.N) :
    (iblk m c 0 t : Vec Ideal S512x64 .f32) = m ((c : Thread nD τ).loc main_arg1) := by
  funext y
  blk_ext! [iblk, V, idx t]

/-- The tokens' block is the tokens' array. -/
theorem block_tokens (c : Dev nD) (t : Fin cfg0.N) :
    (iblk m c 1 t : Vec Ideal S512x1024 .f32) = m ((c : Thread nD τ).loc main_arg0) := by
  funext y
  blk_ext! [iblk, V, idx t]

/-- Slot `j` of the gate-and-up block at point `n` is expert `4 n + j`. -/
theorem block_w13 (c : Dev nD) (n : Fin 16) (hn : n.val < cfg0.N) (j : Fin 4) (i k : Fin 1024) :
    iblk m c 2 ⟨n.val, hn⟩ (ix3 j i k) = m ((c : Thread nD τ).loc main_arg2) (ix3 (expertAt n j) i k) := by
  unfold expertAt
  blk_ext! [iblk, V, idx ⟨n.val, hn⟩]

/-- Slot `j` of the down block at point `n` is expert `4 n + j`. -/
theorem block_w2 (c : Dev nD) (n : Fin 16) (hn : n.val < cfg0.N) (j : Fin 4) (o : Fin 1024) (i : Fin 512) :
    iblk m c 3 ⟨n.val, hn⟩ (ix3 j o i) = m ((c : Thread nD τ).loc main_arg3) (ix3 (expertAt n j) o i) := by
  unfold expertAt
  blk_ext! [iblk, V, idx ⟨n.val, hn⟩]

/-- Expert number `e`'s addend at token `t` and feature `h`, under the shares `s` (zero past the last expert). -/
def addend (c : Dev nD) (s : Fin 512 → Fin 64 → ℝ) (t : Fin 512) (h : Fin 1024) (e : ℕ) : EReal :=
  if he : e < 64 then (s t ⟨e, he⟩ : EReal) * expertOut (m ((c : Thread nD τ).loc main_arg0)) (m ((c : Thread nD τ).loc main_arg2))
    (m ((c : Thread nD τ).loc main_arg3)) t ⟨e, he⟩ h else 0

/-- A grid point adds its four experts' addends to what the output block held. -/
theorem point_apply (c : Dev nD) (s : Fin 512 → Fin 64 → ℝ) (hpos : ∀ t q, 0 ≤ s t q) (n : ℕ) (hn : n < cfg0.N)
    (cmb : Vec Ideal S512x64 .f32) (hs : ∀ t q, cmb (ix2 t q) = (s t q : EReal)) (prev : Vec Ideal S512x1024 .f32)
    (t : Fin 512) (h : Fin 1024) :
    pointSum (BitVec.ofNat 32 (grid0.coords ⟨n, hn⟩ 0).val) (iblk m c 1 ⟨n, hn⟩) cmb (loads13 (iblk m c 2 ⟨n, hn⟩))
      (loads2 (iblk m c 3 ⟨n, hn⟩)) prev (ix2 t h) = prev (ix2 t h) + ∑ j : Fin 4, addend m c s t h (n * 4 + j.val) := by
  have hn' : n < 16 := lt_of_lt_of_eq hn N_0
  rw [(idx ⟨n, hn⟩).2.2.2.2, block_tokens]
  refine (pointSum_apply ⟨n, hn'⟩ _ cmb _ _ prev _ _ (fun j i k => (loads13_apply _ j i k).trans (block_w13 m c ⟨n, hn'⟩ hn j i k))
    (fun j o i => (loads2_apply _ j o i).trans (block_w2 m c ⟨n, hn'⟩ hn j o i)) t (s t) (hs t) (hpos t) h).trans ?_
  refine congrArg (prev (ix2 t h) + ·) (Finset.sum_congr rfl fun j _ => ?_)
  have he : n * 4 + j.val < 64 := by omega
  have hx : expertAt ⟨n, hn'⟩ j = ⟨n * 4 + j.val, he⟩ := Fin.ext (by show 4 * n + j.val = n * 4 + j.val; omega)
  rw [hx, addend, dif_pos he]

/-- After point `n` the scratch holds the shares the first point computed, and the output block the addends of the first
    `4 (n + 1)` experts. -/
theorem after_point (c : Dev nD) (s : Fin 512 → Fin 64 → ℝ) (hpos : ∀ t q, 0 ≤ s t q)
    (hs : ∀ t q, k0_pay1 (F := Ideal) (m ((c : Thread nD τ).loc main_arg1)) (ix2 t q) = (s t q : EReal)) :
    ∀ (n : ℕ) (hn : n < cfg0.N), (∀ t q, (outsAt0 m c n hn).2 (ix2 t q) = (s t q : EReal)) ∧
      ∀ t h, (outsAt0 m c n hn).1 (ix2 t h) = ∑ k : Fin (n + 1), ∑ j : Fin 4, addend m c s t h (k.val * 4 + j.val) := by
  intro n
  induction n with
  | zero =>
    intro hn
    have e := after_first m c ⟨0, hn⟩ rfl
    rw [block_logits] at e
    refine ⟨fun t q => ?_, fun t h => ?_⟩
    · rw [show outsAt0 m c 0 hn = _ from e]
      exact hs t q
    · rw [show outsAt0 m c 0 hn = _ from e]
      refine (point_apply m c s hpos 0 hn _ hs _ t h).trans ?_
      unfold k0_pay3
      pointwise
      simp
  | succ n ih =>
    intro hn
    obtain ⟨ih2, ih1⟩ := ih (Nat.lt_of_succ_lt hn)
    have hn' : n + 1 < 16 := lt_of_lt_of_eq hn N_0
    have e := after_later m c ⟨n + 1, hn⟩ (by show ¬ (n + 1) % 16 = 0; omega)
    refine ⟨fun t q => ?_, fun t h => ?_⟩
    · rw [show outsAt0 m c (n + 1) hn = _ from e]
      exact ih2 t q
    · rw [show outsAt0 m c (n + 1) hn = _ from e]
      refine (point_apply m c s hpos (n + 1) hn _ ih2 _ t h).trans ?_
      rw [Fin.sum_univ_castSucc (n := n + 1)]
      exact congrArg (· + _) (ih1 t h)

/-- The kernel's result at token `t` and feature `h`: every expert's output, times the token's share of the expert, added
    up, where the first point's shares are the nonnegative reals `s`. -/
theorem kernel_value (c : Dev nD) (s : Fin 512 → Fin 64 → ℝ) (hpos : ∀ t q, 0 ≤ s t q)
    (hs : ∀ t q, k0_pay1 (F := Ideal) (m ((c : Thread nD τ).loc main_arg1)) (ix2 t q) = (s t q : EReal)) (t : Fin 512) (h : Fin 1024) :
    Value.G4 m c (ix2 t h) = ∑ e : Fin 64, (s t e : EReal) * expertOut (m ((c : Thread nD τ).loc main_arg0))
      (m ((c : Thread nD τ).loc main_arg2)) (m ((c : Thread nD τ).loc main_arg3)) t e h := by
  have hN : 15 < cfg0.N := lt_of_lt_of_eq (by decide) N_0.symm
  rw [Value.G4_last, ← Value.outsAt0_sweep m c 15 hN, (after_point m c s hpos hs 15 hN).2 t h]
  refine (Fin.sum_univ_univ_mul_add 16 4 (addend m c s t h)).trans ?_
  refine Finset.sum_congr rfl fun e _ => ?_
  have he : e.val < 64 := e.isLt
  rw [addend, dif_pos he]

end Cert.Moe
-- ==== Proof.Moe.ReferenceRouting.lean ====
/- The reference's routing: the softmax of a token's router scores, its two greatest entries with their positions, their
   renormalisation, and each expert's share read off them. -/
module

public import proofs.«01_k».proof.Proof.Gen.ReferenceIdeal.Run
public import proofs.«01_k».proof.Proof.Moe.TopTwo
public import proofs.«01_k».proof.Proof.Moe.Reals
public import Idealize.ShloMosaic.Lib.IdealHost

@[expose] public section

set_option maxRecDepth 16384

noncomputable section

namespace Cert.Moe

open Idealize.ShloMosaic Cert.ReferenceIdeal Cert.ReferenceIdeal.Gen

/-- The scores less their row's greatest. -/
def shifted (l : FVec Ideal S512x64 .f32) : FVec Ideal S512x64 .f32 :=
  subf l (broadcastInDim S512x64 ![0, 1] bcast_S512x1_S512x64_0_1 (broadcastInDim S512x1 ![0] bcast_S512_S512x1_0
    (maximumf (broadcastInDim S512 ![] bcast_S_S512 (constant S_ .f32 0xFF800000#32))
      (Host.reduce FloatOps.maximumf l (constant S_ .f32 0xFF800000#32) reducesTo_S512x64_S512_d1 h_S_))))

/-- The softmax of each row of scores. -/
def softmax (l : FVec Ideal S512x64 .f32) : FVec Ideal S512x64 .f32 :=
  Host.divf (Host.exp (shifted l)) (broadcastInDim S512x64 ![0, 1] bcast_S512x1_S512x64_0_1 (broadcastInDim S512x1 ![0] bcast_S512_S512x1_0
    (Host.reduceAdd (Host.exp (shifted l)) (constant S_ .f32 0x00000000#32) reducesTo_S512x64_S512_d1 h_S_)))

/-- The two greatest entries of each row of `p`, with their positions. -/
def best (p : FVec Ideal S512x64 .f32) : FVec Ideal S512x2 .f32 × IVec S512x2 32 :=
  Host.topK S512x2 1 (FloatOps.cmpfTotal .gt) p sliceFits_S512x64_S512x2

/-- Each token's share of every expert, from the two best entries `v` and their positions: the entries renormalised, each
    put at its position. -/
def combine (v : FVec Ideal S512x2 .f32 × IVec S512x2 32) : FVec Ideal S512x64 .f32 :=
  Host.reduceAdd (mulf (uitofp .f32 (cmpi .eq (broadcastInDim S512x2x64 ![0, 1, 2] bcast_S512x2x1_S512x2x64_0_1_2
      (broadcastInDim S512x2x1 ![0, 1] bcast_S512x2_S512x2x1_0_1 v.2))
      (broadcastInDim S512x2x64 ![0, 1, 2] bcast_S1x1x64_S512x2x64_0_1_2 (iotaInDim S1x1x64 32 2))))
    (broadcastInDim S512x2x64 ![0, 1, 2] bcast_S512x2x1_S512x2x64_0_1_2 (broadcastInDim S512x2x1 ![0, 1] bcast_S512x2_S512x2x1_0_1
      (Host.divf v.1 (broadcastInDim S512x2 ![0, 1] bcast_S512x1_S512x2_0_1 (broadcastInDim S512x1 ![0] bcast_S512_S512x1_0
        (Host.reduceAdd v.1 (constant S_ .f32 0x00000000#32) reducesTo_S512x2_S512_d1 h_S_)))))))
    (constant S_ .f32 0x00000000#32) reducesTo_S512x2x64_S512x64_d1 h_S_

/-- The row of `p` at token `t`, compared greatest first. -/
def greater (p : FVec Ideal S512x64 .f32) (t : Fin 512) (i j : Fin 64) : Bool :=
  FloatOps.cmpfTotal (F := Ideal) (φ := .f32) .gt (p (ix2 t i)) (p (ix2 t j)) == 1#1

theorem greater_eq (p : FVec Ideal S512x64 .f32) (t : Fin 512) (i j : Fin 64) :
    greater p t i j = decide (p (ix2 t j) < p (ix2 t i)) := by
  unfold greater
  show (Ideal.cmp .ogt (p (ix2 t i)) (p (ix2 t j)) == 1#1) = _
  unfold Ideal.cmp
  by_cases h : p (ix2 t j) < p (ix2 t i) <;> simp [h]

/-- Replacing the position in a row gives the index of that row and the new position. -/
theorem along_row (t : Fin 512) (i j : Fin 64) : Shape.Idx.along (s := S512x64) (ix2 t i) 1 j = ix2 t j := by
  funext d
  fin_cases d <;> rfl

/-- The position of that index is the new one. -/
theorem along_row_val (t : Fin 512) (i j : Fin 64) : (Shape.Idx.along (s := S512x64) (ix2 t i) 1 j 1).val = j.val := by
  rw [along_row]
  rfl

/-- Comparing along the row through an index compares in that row: sorting along it is sorting that row. -/
theorem greater_along (p : FVec Ideal S512x64 .f32) (t : Fin 512) (i : Fin 64) :
    (fun k k' : Fin 64 => FloatOps.cmpfTotal (F := Ideal) (φ := .f32) .gt (p (Shape.Idx.along (s := S512x64) (ix2 t i) 1 k))
      (p (Shape.Idx.along (s := S512x64) (ix2 t i) 1 k')) == 1#1) = greater p t := by
  funext k k'
  rw [along_row, along_row, greater]

/-- The `k`-th best entry and its position, by the stable sort of the row. -/
theorem best_apply (p : FVec Ideal S512x64 .f32) (t : Fin 512) (k : Fin 2) :
    (best p).1 (ix2 t k) = p (ix2 t (sortedFrom (greater p t) (k.castLE (by decide))))
      ∧ (best p).2 (ix2 t k) = BitVec.ofNat 32 (sortedFrom (greater p t) (k.castLE (by decide))).val := by
  have key := congrArg (fun R => sortedFrom R (k.castLE (by decide))) (greater_along p t (k.castLE (by decide)))
  rw [← along_row t (k.castLE (by decide))]
  unfold best Host.topK Host.sort2
  pointwise
  exact ⟨congrArg (fun j => p (Shape.Idx.along (s := S512x64) (ix2 t (k.castLE (by decide))) 1 j)) key,
    (congrArg (fun j => BitVec.ofNat 32 (Shape.Idx.along (s := S512x64) (ix2 t (k.castLE (by decide))) 1 j 1).val) key).trans
      (congrArg (BitVec.ofNat 32) (along_row_val t _ _))⟩

/-- Comparing the numbers of two experts for equality, read as a number: one if they are the same, else zero. -/
theorem uitofp_pos (i j : Fin 64) : FloatOps.uitofp (F := Ideal) .f32 (IntOp.cmpi .eq (BitVec.ofNat 32 i.val) (BitVec.ofNat 32 j.val)) =
    if i = j then (1 : EReal) else 0 := by
  have hw : ∀ c : BitVec 1, FloatOps.uitofp (F := Ideal) .f32 c = Scalar.select c (1 : EReal) 0 := by
    intro c
    rcases BitVec.eq_zero_or_eq_one c with h | h <;> subst h <;> simp [FloatOps.uitofp, Scalar.select]
  rw [hw]
  exact select_pos i j 1 0

/-- The softmax weight of expert `e` in a row of real scores whose greatest is the score of `a`. -/
def softWeight (f : Fin 64 → ℝ) (a e : Fin 64) : ℝ := Real.exp (f e - f a) / ∑ j, Real.exp (f j - f a)

/-- The sum of a row's exponentials is positive. -/
theorem sum_exp_pos (f : Fin 64 → ℝ) (a : Fin 64) : 0 < ∑ j, Real.exp (f j - f a) :=
  Finset.sum_pos (fun _ _ => Real.exp_pos _) ⟨0, Finset.mem_univ _⟩

/-- A softmax weight is positive. -/
theorem softWeight_pos (f : Fin 64 → ℝ) (a e : Fin 64) : 0 < softWeight f a e :=
  div_pos (Real.exp_pos _) (sum_exp_pos f a)

/-- Softmax weights are ordered as the scores are. -/
theorem softWeight_lt (f : Fin 64 → ℝ) (a i j : Fin 64) : softWeight f a i < softWeight f a j ↔ f i < f j := by
  unfold softWeight
  rw [div_lt_div_iff_of_pos_right (sum_exp_pos f a), Real.exp_lt_exp, sub_lt_sub_iff_right]

/-- The first chosen expert's weight over the two chosen experts' weights is its share. -/
theorem softWeight_fst (f : Fin 64 → ℝ) (a b : Fin 64) :
    softWeight f a a / (softWeight f a a + softWeight f a b) = 1 / (1 + Real.exp (f b - f a)) := by
  have hS := (sum_exp_pos f a).ne'
  have hE : 1 + Real.exp (f b - f a) ≠ 0 := (add_pos one_pos (Real.exp_pos _)).ne'
  unfold softWeight
  rw [sub_self, Real.exp_zero, ← add_div, div_div_div_cancel_right₀ hS]

/-- The second chosen expert's weight over the two chosen experts' weights is what the first's share leaves of one. -/
theorem softWeight_snd (f : Fin 64 → ℝ) (a b : Fin 64) :
    softWeight f a b / (softWeight f a a + softWeight f a b) = 1 - 1 / (1 + Real.exp (f b - f a)) := by
  have h : softWeight f a a + softWeight f a b ≠ 0 := (add_pos (softWeight_pos f a a) (softWeight_pos f a b)).ne'
  rw [← softWeight_fst, eq_sub_iff_add_eq, ← add_div, add_comm, div_self h]

/-- A finite sum of reals, read among the extended reals. -/
theorem sum_real {n : ℕ} (g : Fin n → ℝ) : ∑ j, ((g j : ℝ) : EReal) = ((∑ j, g j : ℝ) : EReal) := by
  induction n with
  | zero => simp
  | succ n ih => rw [Fin.sum_univ_castSucc, Fin.sum_univ_castSucc, ih, EReal.coe_add]

/-- A shifted score is the score less its row's greatest, if the token's scores are the reals `f`. -/
theorem shifted_apply (l : FVec Ideal S512x64 .f32) (t : Fin 512) (f : Fin 64 → ℝ) (hl : ∀ j, l (ix2 t j) = (f j : EReal))
    {a b : Fin 64} (h : TopTwo f a b) (e : Fin 64) : shifted l (ix2 t e) = ((f e - f a : ℝ) : EReal) := by
  have hmax := fold_max_eq (fun x => ((f x : ℝ) : EReal)) a fun j => by exact_mod_cast h.le_fst j
  unfold shifted
  pointwise
  simp only [hl, ofBits_lowest, hmax, bot_le, max_eq_right, EReal.coe_sub]

/-- A softmax entry is the real softmax weight, if the token's scores are the reals `f`. -/
theorem softmax_apply (l : FVec Ideal S512x64 .f32) (t : Fin 512) (f : Fin 64 → ℝ) (hl : ∀ j, l (ix2 t j) = (f j : EReal))
    {a b : Fin 64} (h : TopTwo f a b) (e : Fin 64) : softmax l (ix2 t e) = (softWeight f a e : EReal) := by
  unfold softmax
  pointwise
  simp only [shifted_apply l t f hl h, Ideal.exp_coe, sum_real]
  exact div_real _ _ (sum_exp_pos f a).ne'

/-- The best entries of the softmax are the two chosen experts' weights, at the two chosen experts' positions. -/
theorem best_softmax (l : FVec Ideal S512x64 .f32) (t : Fin 512) (f : Fin 64 → ℝ) (hl : ∀ j, l (ix2 t j) = (f j : EReal))
    {a b : Fin 64} (h : TopTwo f a b) (k : Fin 2) :
    (best (softmax l)).1 (ix2 t k) = (softWeight f a (![a, b] k) : EReal)
      ∧ (best (softmax l)).2 (ix2 t k) = BitVec.ofNat 32 (![a, b] k).val := by
  have hp := softmax_apply l t f hl h
  have hs := sortedFrom_topTwo h (fun j => softmax l (ix2 t j))
    (fun i j => by rw [hp, hp, EReal.coe_lt_coe_iff, softWeight_lt]) (greater (softmax l) t) (greater_eq _ t) k
  have hb := best_apply (softmax l) t k
  rw [hs, hp] at hb
  exact hb

/-- The reference's weight of expert `e` for token `t` is that expert's share, if the token's scores are the reals `f`. -/
theorem reference_routing (l : FVec Ideal S512x64 .f32) (t : Fin 512) (f : Fin 64 → ℝ) (hl : ∀ j, l (ix2 t j) = (f j : EReal))
    {a b : Fin 64} (h : TopTwo f a b) (e : Fin 64) : combine (best (softmax l)) (ix2 t e) = (share f a b e : EReal) := by
  have hb := best_softmax l t f hl h
  have hsum : softWeight f a a + softWeight f a b ≠ 0 := (add_pos (softWeight_pos f a a) (softWeight_pos f a b)).ne'
  unfold combine
  pointwise
  simp only [(hb _).1, (hb _).2, Fin.sum_univ_two, Matrix.cons_val_zero, Matrix.cons_val_one, ← EReal.coe_add,
    div_real _ _ hsum, softWeight_fst, softWeight_snd]
  simp only [uitofp_pos, ite_mul, one_mul, zero_mul]
  unfold share
  by_cases ha : a = e
  · have hb : b ≠ e := fun hb => h.ne (hb.trans ha.symm)
    rw [if_pos ha, if_neg hb, if_pos ha.symm, add_zero]
  · rw [if_neg ha, if_neg (Ne.symm ha), zero_add]
    by_cases hb : b = e
    · rw [if_pos hb, if_pos hb.symm]
    · rw [if_neg hb, if_neg (Ne.symm hb), EReal.coe_zero]

end Cert.Moe
-- ==== Proof.Moe.ReferenceValue.lean ====
/- The reference's result at a token and a feature: every expert's output there, times the token's share of the expert. -/
module

public import proofs.«01_k».proof.Proof.Moe.ReferenceRouting
public import proofs.«01_k».proof.Proof.Moe.Mixture
public import Idealize.ShloMosaic.Lib.Tactic.CleanTypes

@[expose] public section

set_option maxRecDepth 16384

noncomputable section

namespace Cert.Moe

open Idealize.ShloMosaic Cert.ReferenceIdeal Cert.ReferenceIdeal.Gen

/-- The reference's result, as an array of extended reals. -/
def result (m : (ℓ : Loc nD τ sig) → Buf (Elt Ideal) ℓ) (c : Dev nD) : FVec Ideal S512x1024 .f32 := Value.res_main_v27 m c

/-- The reference's result before its routing is read: at a token and a feature, every expert's output weighted by the
    combined softmax entries. -/
theorem reference_mixture (m : (ℓ : Loc nD τ sig) → Buf (Elt Ideal) ℓ) (c : Dev nD) (t : Fin 512) (h : Fin 1024) :
    result m c (ix2 t h) = ∑ e : Fin 64, combine (best (softmax (m ((c.tc : Thread nD τ).loc main_arg1)))) (ix2 t e) *
      expertOut (m ((c.tc : Thread nD τ).loc main_arg0)) (m ((c.tc : Thread nD τ).loc main_arg2)) (m ((c.tc : Thread nD τ).loc main_arg3)) t e h := by
  unfold result Value.res_main_v27 combine best softmax shifted expertOut hidden proj Ideal.logistic
  clean_types
  pointwise

/-- The reference's result at token `t` and feature `h`, if the router scores are the reals `f` and `a`, `b` are each
    token's two chosen experts: every expert's output, times the token's share of the expert, added up. -/
theorem reference_value (m : (ℓ : Loc nD τ sig) → Buf (Elt Ideal) ℓ) (c : Dev nD) (f : Fin 512 → Fin 64 → ℝ)
    (hf : ∀ t j, (m ((c.tc : Thread nD τ).loc main_arg1) : FVec Ideal S512x64 .f32) (ix2 t j) = (f t j : EReal)) (a b : Fin 512 → Fin 64)
    (hab : ∀ t, TopTwo (f t) (a t) (b t)) (t : Fin 512) (h : Fin 1024) :
    result m c (ix2 t h) = ∑ e : Fin 64, (share (f t) (a t) (b t) e : EReal) *
      expertOut (m ((c.tc : Thread nD τ).loc main_arg0)) (m ((c.tc : Thread nD τ).loc main_arg2)) (m ((c.tc : Thread nD τ).loc main_arg3)) t e h :=
  (reference_mixture m c t h).trans (Finset.sum_congr rfl fun e _ =>
    congrArg (· * _) (reference_routing _ t (f t) (hf t) (hab t) e))

end Cert.Moe
-- ==== Proof.Moe.Equation.lean ====
/- The equation: on the same arguments, the router scores being reals, the kernel's result is the reference's. -/
module

public import proofs.«01_k».proof.Proof.Moe.KernelRouting
public import proofs.«01_k».proof.Proof.Moe.Sweep
public import proofs.«01_k».proof.Proof.Moe.ReferenceValue

@[expose] public section

set_option maxRecDepth 16384

noncomputable section

namespace Cert.Moe

open Idealize.ShloMosaic

/-- From memories agreeing on the arguments, every router score a real: both results are, at every token and feature, the
    sum over the experts of the expert's output times the token's share of it. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (f : Fin 512 → Fin 64 → ℝ) (hf : ∀ t j, (m ((c.tc : Thread Cert.KernelIdeal.nD Cert.KernelIdeal.τ).loc Cert.KernelIdeal.main_arg1) :
      FVec Ideal Cert.KernelIdeal.S512x64 .f32) (ix2 t j) = (f t j : EReal)) :
    Cert.ReferenceIdeal.Value.res_main_v27 m' c = Cert.KernelIdeal.Value.G4 m c := by
  choose a b hab using fun t => exists_topTwo (f t)
  have hf' : ∀ t j, (m' ((c.tc : Thread Cert.ReferenceIdeal.nD Cert.ReferenceIdeal.τ).loc Cert.ReferenceIdeal.main_arg1) :
      FVec Ideal Cert.ReferenceIdeal.S512x64 .f32) (ix2 t j) = (f t j : EReal) := by
    rw [h1]
    exact hf
  have reference := reference_value m' c f hf' a b hab
  have kernel := kernel_value m c (fun t => share (f t) (a t) (b t)) (fun t q => share_nonneg _ _ _ q)
    (fun t q => kernel_routing _ t (f t) (hf t) (hab t) q)
  rw [h0, h2, h3] at reference
  funext i
  obtain ⟨t, h, rfl⟩ : ∃ (t : Fin 512) (h : Fin 1024), i = ix2 t h := ⟨i 0, i 1, (ix2_eta i).symm⟩
  exact (reference t h).trans (kernel t h).symm

end Cert.Moe
-- ==== Proof.Moe.Finite.lean ====
/- The precondition read: the predicate's value being one says that every router score is a real number. -/
module

public import proofs.«01_k».proof.Pre_finite_logits
public import Idealize.ShloMosaic.Lib.ReduceAll
public import Idealize.ShloMosaic.Lib.Pointwise

@[expose] public section

noncomputable section

namespace Cert.Moe

open Idealize.ShloMosaic Cert.Pre_finite_logits

/-- The shape relations the predicate's operations take hold. -/
theorem finite_logits_facts : Cert.Pre_finite_logits.Facts where
  bcast_S_S512x64 := by decide
  reducesTo_S512x64_S_d0_1 := by decide
  h_S_ := by decide

/-- The word the predicate compares with is the greatest extended real. -/
theorem ofBits_infinity : Ideal.ofBits .f32 0x7F800000#32 = ⊤ := by
  simp [Ideal.ofBits, Ideal.ieee]

/-- An extended real of absolute value less than `⊤` is a real. -/
theorem real_of_abs_lt (x : EReal) (h : x < ⊤) (h' : -x < ⊤) : x = (x.toReal : EReal) := by
  refine (EReal.coe_toReal h.ne fun e => ?_).symm
  subst e
  simp at h'

/-- If the predicate's value is one, every router score is a real. -/
theorem logits_real [Cert.Pre_finite_logits.Facts] (x : FVec Ideal S512x1024 .f32) (l : FVec Ideal S512x64 .f32)
    (w : FVec Ideal S64x1024x1024 .f32) (v : FVec Ideal S64x1024x512 .f32) (h : fn (F := Ideal) x l w v = fun _ => 1#1) (t : Fin 512)
    (j : Fin 64) : l (ix2 t j) = ((l (ix2 t j)).toReal : EReal) := by
  haveI : Subsingleton S_.Idx := ⟨fun _ _ => funext fun d => d.elim0⟩
  have e := Host.reduce_andi_all _ _ _ _ _ (congrFun h (Shape.Idx.first Facts.h_S_)) (ix2 t j)
  revert e
  pointwise
  rw [ofBits_infinity]
  intro e
  have hlt : max (l (ix2 t j)) (-l (ix2 t j)) < ⊤ := by
    by_contra hn
    rw [show FloatOps.absf (l (ix2 t j)) = max (l (ix2 t j)) (-l (ix2 t j)) from rfl, decide_eq_false hn] at e
    exact absurd e (by decide)
  exact real_of_abs_lt _ (lt_of_le_of_lt (le_max_left _ _) hlt) (lt_of_le_of_lt (le_max_right _ _) hlt)

end Cert.Moe
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Moe.Equation
public import proofs.«01_k».proof.Proof.Moe.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame, from every initial memory: its run, the counters zero because it declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results, from memories agreeing on the arguments whose router scores are
    finite. -/
theorem algebraic [Cert.Pre_finite_logits.Facts] : algebraic_KernelIdeal_ReferenceIdeal_pre_finite_logits := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3⟩ := hagree c
  exact Cert.Moe.equation m m' c h0 h1 h2 h3 _ (Cert.Moe.logits_real _ _ _ _ (hpre c))

/-- All the claims together. -/
theorem claim : Cert.Claim := ⟨Cert.Kernel.Gen.facts, Cert.KernelIdeal.Gen.facts, Cert.ReferenceIdeal.Gen.facts, Cert.Moe.finite_logits_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  @algebraic Cert.Moe.finite_logits_facts⟩

end Cert.Proof

end
